-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_logit_finite [hPre_top_logit_finite : Cert.Pre_top_logit_finite.Facts] (m : (ℓ : Loc Cert.KernelIdeal.nD Cert.KernelIdeal.τ Cert.KernelIdeal.sig) → Buf (Elt Ideal) ℓ) : Prop :=
  ∀ c : Dev Cert.KernelIdeal.nD,
    (Cert.Pre_top_logit_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_logit_finite [hPre_top_logit_finite : Cert.Pre_top_logit_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_logit_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_top_logit_finite [hKernelIdeal : Cert.KernelIdeal.Facts] [hPre_top_logit_finite : Cert.Pre_top_logit_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_logit_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_top_logit_finite [hReferenceIdeal : Cert.ReferenceIdeal.Facts] [hPre_top_logit_finite : Cert.Pre_top_logit_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_logit_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_top_logit_finite [hKernelIdeal : Cert.KernelIdeal.Facts] [hReferenceIdeal : Cert.ReferenceIdeal.Facts] [hPre_top_logit_finite : Cert.Pre_top_logit_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_logit_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_top_logit_finite : Cert.Pre_top_logit_finite.Facts),
    quiescent_Kernel (hKernel := hKernel)
    ∧ quiescent_KernelIdeal (hKernelIdeal := hKernelIdeal)
    ∧ quiescent_KernelIdeal_pre_top_logit_finite (hKernelIdeal := hKernelIdeal) (hPre_top_logit_finite := hPre_top_logit_finite)
    ∧ quiescent_ReferenceIdeal (hReferenceIdeal := hReferenceIdeal)
    ∧ quiescent_ReferenceIdeal_pre_top_logit_finite (hReferenceIdeal := hReferenceIdeal) (hPre_top_logit_finite := hPre_top_logit_finite)
    ∧ preserves_Kernel_KernelIdeal
    ∧ algebraic_KernelIdeal_ReferenceIdeal_pre_top_logit_finite (hKernelIdeal := hKernelIdeal) (hReferenceIdeal := hReferenceIdeal) (hPre_top_logit_finite := hPre_top_logit_finite)
-- ==== Pre_top_logit_finite.lean ====
abbrev S2048x1024 : Shape := ⟨2, ![2048, 1024]⟩
abbrev S1024x8 : Shape := ⟨2, ![1024, 8]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S2048x8 : Shape := ⟨2, ![2048, 8]⟩
abbrev S1x8 : Shape := ⟨2, ![1, 8]⟩
abbrev S_ : Shape := ⟨0, ![]⟩
abbrev S2048 : Shape := ⟨1, ![2048]⟩

class Facts : Prop where
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  reducesTo_S2048x8_S2048_d1 : S2048x8.ReducesTo [1] S2048
  h_S_ : 0 < S_.numel
  bcast_S_S2048 : S_.BroadcastsInDim S2048 (![] : Fin 0 → Fin S2048.rank)
  dot_S2048x1024_S1024x8_S2048x8_1_0_0_1_n_n_wf : DotDims.WF S2048x1024 S1024x8 S2048x8 [1] [0] [0] [1] [] []

variable [Facts]

def dot_S2048x1024_S1024x8_S2048x8_1_0_0_1_n_n : DotDims S2048x1024 S1024x8 S2048x8 where
  lhsContracting := [1]
  rhsContracting := [0]
  lhsNonContracting := [0]
  rhsNonContracting := [1]
  lhsBatch := []
  rhsBatch := []
  wf := dot_S2048x1024_S1024x8_S2048x8_1_0_0_1_n_n_wf
def fn {F : FTy → Type} [FloatOps F] (main_arg0 : FVec F S2048x1024 .f32) (main_arg1 : FVec F S1024x8 .f32) (main_arg2 : FVec F S8 .f32) (main_arg3 : FVec F S8x1024x4096 .f32) (main_arg4 : FVec F S8x4096 .f32) (main_arg5 : FVec F S8x4096x1024 .f32) (main_arg6 : FVec F S8x1024 .f32) : IVec S2048 1 :=
  let main_v0 : FVec F S2048x8 .f32 := (fun l r => Host.dotGeneral dot_S2048x1024_S1024x8_S2048x8_1_0_0_1_n_n none l r) main_arg0 main_arg1
  let main_v1 : FVec F S1x8 .f32 := broadcastInDim S1x8 ![1] bcast_S8_S1x8_1 main_arg2
  let main_v2 : FVec F S2048x8 .f32 := broadcastInDim S2048x8 ![0, 1] bcast_S1x8_S2048x8_0_1 main_v1
  let main_v3 : FVec F S2048x8 .f32 := addf main_v0 main_v2
  let main_cst : FVec F S_ .f32 := constant S_ .f32 0xFF800000#32
  let main_v4 : FVec F S2048 .f32 := (fun x v => Host.reduce FloatOps.maximumf x v reducesTo_S2048x8_S2048_d1 h_S_) main_v3 main_cst
  let main_v5 : FVec F S2048 .f32 := Host.absf main_v4
  let main_cst_0 : FVec F S_ .f32 := constant S_ .f32 0x7F800000#32
  let main_v6 : FVec F S2048 .f32 := broadcastInDim S2048 ![] bcast_S_S2048 main_cst_0
  let main_v7 : IVec S2048 1 := cmpf .olt main_v5 main_v6
  main_v7
-- ==== Kernel.lean ====
abbrev S2048x1024 : Shape := ⟨2, ![2048, 1024]⟩
abbrev S1024x8 : Shape := ⟨2, ![1024, 8]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S1x8 : Shape := ⟨2, ![1, 8]⟩
abbrev S1024x1024 : Shape := ⟨2, ![1024, 1024]⟩
abbrev S1x1024x2048 : Shape := ⟨3, ![1, 1024, 2048]⟩
abbrev S1x2048x1024 : Shape := ⟨3, ![1, 2048, 1024]⟩
abbrev S1024 : Shape := ⟨1, ![1024]⟩
abbrev S1024x1 : Shape := ⟨2, ![1024, 1]⟩
abbrev S1024x2048 : Shape := ⟨2, ![1024, 2048]⟩
abbrev S1x2048 : Shape := ⟨2, ![1, 2048]⟩
abbrev S2048 : Shape := ⟨1, ![2048]⟩

abbrev nBuf : Space → Nat
  | .hbm => 11
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8, .f32⟩
  | .hbm, ⟨3, _⟩ => ⟨S8x1024x4096, .f32⟩
  | .hbm, ⟨4, _⟩ => ⟨S8x4096, .f32⟩
  | .hbm, ⟨5, _⟩ => ⟨S8x4096x1024, .f32⟩
  | .hbm, ⟨6, _⟩ => ⟨S8x1024, .f32⟩
  | .hbm, ⟨7, _⟩ => ⟨S2048x1024, .bf16⟩
  | .hbm, ⟨8, _⟩ => ⟨S1024x8, .bf16⟩
  | .hbm, ⟨9, _⟩ => ⟨S1x8, .f32⟩
  | .hbm, ⟨10, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x8, .bf16⟩
  | .local _ .vmem, ⟨3, _⟩ => ⟨S1x8, .f32⟩
  | .local _ .vmem, ⟨4, _⟩ => ⟨S1x1024x2048, .f32⟩
  | .local _ .vmem, ⟨5, _⟩ => ⟨S1x1024x2048, .f32⟩
  | .local _ .vmem, ⟨6, _⟩ => ⟨S8x4096, .f32⟩
  | .local _ .vmem, ⟨7, _⟩ => ⟨S1x2048x1024, .f32⟩
  | .local _ .vmem, ⟨8, _⟩ => ⟨S1x2048x1024, .f32⟩
  | .local _ .vmem, ⟨9, _⟩ => ⟨S8x1024, .f32⟩
  | .local _ .vmem, ⟨10, _⟩ => ⟨S1024x1024, .f32⟩
  | .local _ .vmem, ⟨11, _⟩ => ⟨S1024x1024, .f32⟩
  | .local _ .vmem, ⟨12, _⟩ => ⟨S1024x8, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![2, 8, 2], ![false, false, false]⟩

def k0_off1 (i : grid0.Coords) : Fin 2 → Nat :=
  let arg1 : BitVec 32 := BitVec.ofNat 32 (i 1).val
  let c1_i32 : BitVec 32 := 1#32
  let v6 : BitVec 32 := Scalar.muli arg1 c1_i32
  let c0_i32_2 : BitVec 32 := 0#32
  let v7 : BitVec 32 := Scalar.addi v6 c0_i32_2
  let v15 : Index := Scalar.indexCast v7
  let arg2 : BitVec 32 := BitVec.ofNat 32 (i 2).val
  let c2048_i32 : BitVec 32 := 2048#32
  let v14 : BitVec 32 := Scalar.muli arg2 c2048_i32
  let v16 : Index := Scalar.indexCast v14
  ![v15.toNat, v16.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceIdeal.lean ====
abbrev S2048x1024 : Shape := ⟨2, ![2048, 1024]⟩
abbrev S1024x8 : Shape := ⟨2, ![1024, 8]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S2048x8 : Shape := ⟨2, ![2048, 8]⟩
abbrev S1x8 : Shape := ⟨2, ![1, 8]⟩
abbrev S_ : Shape := ⟨0, ![]⟩
abbrev S2048 : Shape := ⟨1, ![2048]⟩
abbrev S2048x1 : Shape := ⟨2, ![2048, 1]⟩
abbrev S2048x8x4096 : Shape := ⟨3, ![2048, 8, 4096]⟩
abbrev S1x8x4096 : Shape := ⟨3, ![1, 8, 4096]⟩
abbrev S8x1024x2048 : Shape := ⟨3, ![8, 1024, 2048]⟩
abbrev S2048x8x1024 : Shape := ⟨3, ![2048, 8, 1024]⟩
abbrev S1x8x1024 : Shape := ⟨3, ![1, 8, 1024]⟩
abbrev S2048x8x1 : Shape := ⟨3, ![2048, 8, 1]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8, .f32⟩
  | .hbm, ⟨3, _⟩ => ⟨S8x1024x4096, .f32⟩
  | .hbm, ⟨4, _⟩ => ⟨S8x4096, .f32⟩
  | .hbm, ⟨5, _⟩ => ⟨S8x4096x1024, .f32⟩
  | .hbm, ⟨6, _⟩ => ⟨S8x1024, .f32⟩
  | .hbm, ⟨7, _⟩ => ⟨S2048x8, .f32⟩
  | .hbm, ⟨8, _⟩ => ⟨S1x8, .f32⟩
  | .hbm, ⟨9, _⟩ => ⟨S2048x8, .f32⟩
  | .hbm, ⟨10, _⟩ => ⟨S2048x8, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S2048x1, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S2048x8, .f32⟩
  | .hbm, ⟨24, _⟩ => ⟨S2048x8, .f32⟩
  | .hbm, ⟨25, _⟩ => ⟨S2048x8x4096, .f32⟩
  | .hbm, ⟨26, _⟩ => ⟨S1x8x4096, .f32⟩
  | .hbm, ⟨27, _⟩ => ⟨S2048x8x4096, .f32⟩
  | .hbm, ⟨28, _⟩ => ⟨S2048x8x4096, .f32⟩
  | .hbm, ⟨29, _⟩ => ⟨S_, .f32⟩
  | .hbm, ⟨30, _⟩ => ⟨S2048x8x4096, .f32⟩
  | .hbm, ⟨31, _⟩ => ⟨S2048x8x4096, .f32⟩
  | .hbm, ⟨32, _⟩ => ⟨S8x1024x2048, .f32⟩
  | .hbm, ⟨33, _⟩ => ⟨S2048x8x1024, .f32⟩
  | .hbm, ⟨34, _⟩ => ⟨S1x8x1024, .f32⟩
  | .hbm, ⟨35, _⟩ => ⟨S2048x8x1024, .f32⟩
  | .hbm, ⟨36, _⟩ => ⟨S2048x8x1024, .f32⟩
  | .hbm, ⟨37, _⟩ => ⟨S2048x8x1, .f32⟩
  | .hbm, ⟨38, _⟩ => ⟨S2048x8x1024, .f32⟩
  | .hbm, ⟨39, _⟩ => ⟨S2048x8x1024, .f32⟩
  | .hbm, ⟨40, _⟩ => ⟨S_, .f32⟩
  | .hbm, ⟨41, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Proof.Opened.lean ====
/-
  What one grid point leaves in the output block and in the scratch, as the kernel's own expressions of the blocks it
  read: the pieces the run stored, read back.
-/
module

public import proofs.«01_k».proof.Proof.Gen.KernelIdeal.Frame
public import Idealize.ShloMosaic.Lib.Pipeline.Value

@[expose] public section

set_option maxRecDepth 16384

noncomputable section

namespace Cert.MoE

open Idealize.ShloMosaic Idealize.ShloMosaic.TcCoe Idealize.SL.Sem
open Cert.KernelIdeal Cert.KernelIdeal.Gen

variable {F : FTy → Type} [FloatOps F]

/-- The offsets of a whole two-axis block are zero. -/
theorem zero_offset : (![0, 0] : Fin 2 → Nat) = fun _ => 0 := by
  funext a
  fin_cases a <;> rfl

/-- The offsets of a whole three-axis block are zero. -/
theorem zero_offset3 : (![0, 0, 0] : Fin 3 → Nat) = fun _ => 0 := by
  funext a
  fin_cases a <;> rfl

/-- The row of the first bias a grid point loads: its expert's row of the bias table, the half of it the point works on. -/
def biasRow (i : grid0.Coords) (x4 : Vec F S8x4096 .f32) : Vec F S1x2048 .f32 :=
  View.ld x4 (Rect.unit (s := S8x4096) (k0_off1 i) S1x2048.size (k0_off1_inb i))

section
variable (c : Dev nD) (i : grid0.Coords)
  (arg3 : Memref sig .tc .vmem S1024x1024 .bf16) (h3 : arg3.IsWhole) (arg4 : Memref sig .tc .vmem S1024x8 .bf16) (h4 : arg4.IsWhole)
  (arg5 : Memref sig .tc .vmem S1x8 .f32) (h5 : arg5.IsWhole) (arg6 : Memref sig .tc .vmem S1x1024x2048 .f32) (h6 : arg6.IsWhole)
  (arg7 : Memref sig .tc .vmem S8x4096 .f32) (h7 : arg7.IsWhole) (arg8 : Memref sig .tc .vmem S1x2048x1024 .f32) (h8 : arg8.IsWhole)
  (arg9 : Memref sig .tc .vmem S8x1024 .f32) (h9 : arg9.IsWhole) (arg10 : Memref sig .tc .vmem S1024x1024 .f32) (h10 : arg10.IsWhole)
  (arg11 : Memref sig .tc .vmem S1024x8 .f32) (h11 : arg11.IsWhole)
  (x0 : Vec F S1024x1024 .bf16) (x1 : Vec F S1024x8 .bf16) (x2 : Vec F S1x8 .f32) (x3 : Vec F S1x1024x2048 .f32)
  (x4 : Vec F S8x4096 .f32) (x5 : Vec F S1x2048x1024 .f32) (x6 : Vec F S8x1024 .f32)

/-- A later point of a token block adds its product to what the output block held, reading the weights the scratch holds. -/
theorem out_later (hc : ¬ cond0_0 i) (xo : Vec F S1024x1024 .f32) (xs : Vec F S1024x8 .f32) :
    out0_B_7 c i arg3 h3 arg4 h4 arg5 h5 arg6 h6 arg7 h7 arg8 h8 arg9 h9 arg10 h10 arg11 h11 hc x0 x1 x2 x3 x4 x5 x6 xo xs
      = k0_pay1 (k0_pay4 i x0 x3 (biasRow i x4) xs) x5 xo := by
  unfold out0_B_7
  rw [View.read_writes_eq_canon _ _ _ (cover0_B_7 c i arg3 h3 arg4 h4 arg5 h5 arg6 h6 arg7 h7 arg8 h8 arg9 h9 arg10 h10 arg11 h11 hc x0 x1 x2 x3 x4 x5 x6 xo xs)]
  unfold kernelRun0_B
  dsimp only
  sl_unfold_words
  rw [View.canon_unit_zero zero_offset]
  unfold biasRow
  simp only [View.readAt_eq_ld, h3.read_unread, h6.read_unread, h7.read_unread, h8.read_unread, h10.read_unread, h11.read_unread,
    View.ld_unit_zero (S := S1024x1024) zero_offset, View.ld_unit_zero (S := S1024x8) zero_offset,
    View.ld_unit_zero (S := S1x1024x2048) zero_offset3, View.ld_unit_zero (S := S1x2048x1024) zero_offset3]
  rfl

/-- The first point of a token block leaves the softmax of the block's logits in the scratch. -/
theorem scratch_first (hc : cond0_0 i) :
    sout0_A_0 c i arg3 h3 arg4 h4 arg5 h5 arg6 h6 arg7 h7 arg8 h8 arg9 h9 arg10 h10 arg11 h11 hc x0 x1 x2 x3 x4 x5 x6
      = k0_pay2 x0 x1 x2 := by
  unfold sout0_A_0
  rw [View.read_writes_eq_canon _ _ _ (scover0_A_0 c i arg3 h3 arg4 h4 arg5 h5 arg6 h6 arg7 h7 arg8 h8 arg9 h9 arg10 h10 arg11 h11 hc x0 x1 x2 x3 x4 x5 x6)]
  unfold kernelRun0_A
  dsimp only
  sl_unfold_words
  rw [View.canon_unit_zero zero_offset]
  simp only [View.readAt_eq_ld, h3.read_unread, h4.read_unread, h5.read_unread,
    View.ld_unit_zero (S := S1024x1024) zero_offset, View.ld_unit_zero (S := S1024x8) zero_offset, View.ld_unit_zero (S := S1x8) zero_offset]

/-- The first point of a token block sets the output block to the weighted second bias and adds its product. -/
theorem out_first (hc : cond0_0 i) :
    out0_A_7 c i arg3 h3 arg4 h4 arg5 h5 arg6 h6 arg7 h7 arg8 h8 arg9 h9 arg10 h10 arg11 h11 hc x0 x1 x2 x3 x4 x5 x6
      = k0_pay1 (k0_pay4 i x0 x3 (biasRow i x4) (k0_pay2 x0 x1 x2)) x5 (k0_pay3 (k0_pay2 x0 x1 x2) x6) := by
  unfold out0_A_7
  rw [View.read_writes_eq_canon _ _ _ (cover0_A_7 c i arg3 h3 arg4 h4 arg5 h5 arg6 h6 arg7 h7 arg8 h8 arg9 h9 arg10 h10 arg11 h11 hc x0 x1 x2 x3 x4 x5 x6)]
  unfold kernelRun0_A
  dsimp only
  sl_unfold_words
  rw [View.canon_cons_unit_zero (S := S1024x1024) zero_offset]
  unfold biasRow
  simp only [View.readAt_eq_ld, h3.read_unread, h4.read_unread, h5.read_unread, h6.read_unread, h7.read_unread, h8.read_unread, h9.read_unread,
    View.readCov_unit_zero (S := S1024x1024) _ zero_offset, View.readCov_unit_zero (S := S1024x8) _ zero_offset,
    View.ld_unit_zero (S := S1024x1024) zero_offset, View.ld_unit_zero (S := S1024x8) zero_offset, View.ld_unit_zero (S := S1x8) zero_offset,
    View.ld_unit_zero (S := S8x1024) zero_offset,
    View.ld_unit_zero (S := S1x1024x2048) zero_offset3, View.ld_unit_zero (S := S1x2048x1024) zero_offset3]
  rfl

end

end Cert.MoE

end
-- ==== Proof.Weights.lean ====
/-
  The softmax weights of one token, over the extended reals: the row of router logits `l`, its largest entry, the weight
  of each expert, and that the weights are nonnegative and finite above once the largest logit is a finite number.
-/
module

public import Idealize.ShloMosaic.Lib.Pointwise

@[expose] public section

noncomputable section

namespace Cert.MoE

open Idealize.ShloMosaic

/-- The largest of a token's eight router logits. -/
def rowTop (l : Fin 8 → EReal) : EReal := Finset.univ.fold max ⊥ l

/-- The softmax weight of expert `e`: the exponential of its logit less the largest, over the sum of the eight. -/
def weight (l : Fin 8 → EReal) (e : Fin 8) : EReal :=
  Ideal.div (Ideal.exp (l e - max ⊥ (rowTop l))) (∑ k : Fin 8, Ideal.exp (l k - max ⊥ (rowTop l)))

/-- The bit pattern of the 32-bit negative infinity denotes the least extended real. -/
theorem negInf_f32 : Ideal.ofBits .f32 0xFF800000#32 = ⊥ := by
  simp [Ideal.ofBits, Ideal.ieee]

/-- The bit pattern of the 32-bit infinity denotes the greatest extended real. -/
theorem posInf_f32 : Ideal.ofBits .f32 0x7F800000#32 = ⊤ := by
  simp [Ideal.ofBits, Ideal.ieee]

/-- No logit exceeds the largest. -/
theorem le_rowTop (l : Fin 8 → EReal) (e : Fin 8) : l e ≤ rowTop l :=
  Finset.le_sup (f := l) (Finset.mem_univ e)

/-- Some expert's logit is the largest. -/
theorem exists_eq_rowTop (l : Fin 8 → EReal) : ∃ e, rowTop l = l e := by
  obtain ⟨e, _, h⟩ := Finset.exists_mem_eq_sup Finset.univ ⟨0, Finset.mem_univ _⟩ l
  exact ⟨e, h⟩

/-- An exponential is nonnegative. -/
theorem exp_nonneg (x : EReal) : 0 ≤ Ideal.exp x := by
  induction x with
  | bot => exact le_refl _
  | top => exact le_top
  | coe r => exact EReal.coe_nonneg.mpr (Real.exp_pos r).le

/-- The exponential of anything but infinity is not infinity. -/
theorem exp_ne_top {x : EReal} (h : x ≠ ⊤) : Ideal.exp x ≠ ⊤ := by
  induction x with
  | bot => exact EReal.zero_ne_top
  | top => exact absurd rfl h
  | coe r => exact EReal.coe_ne_top _

/-- The exponential of zero is one. -/
theorem exp_zero : Ideal.exp 0 = 1 := by
  show ((Real.exp 0 : ℝ) : EReal) = 1
  rw [Real.exp_zero]
  rfl

/-- A quotient of a nonnegative number below infinity by a positive one is nonnegative and below infinity. -/
theorem div_nonneg_ne_top {a s : EReal} (ha : 0 ≤ a) (ha' : a ≠ ⊤) (hs : 0 < s) :
    0 ≤ Ideal.div a s ∧ Ideal.div a s ≠ ⊤ := by
  unfold Ideal.div
  rw [if_neg hs.ne']
  refine ⟨mul_nonneg ha (EReal.inv_nonneg_of_nonneg hs.le), ?_⟩
  induction a with
  | bot => exact absurd ha (by simp)
  | top => exact absurd rfl ha'
  | coe a =>
    induction s with
    | bot => exact absurd hs (by simp)
    | top => simp
    | coe s => rw [← EReal.coe_inv, ← EReal.coe_mul]; exact EReal.coe_ne_top _

/-- When the largest logit is a finite number, every weight is nonnegative and below infinity: the exponentials are, and one of
    them is one, so their sum is positive. -/
theorem weight_nonneg_ne_top {l : Fin 8 → EReal} (ht : rowTop l ≠ ⊤) (hb : rowTop l ≠ ⊥) (e : Fin 8) :
    0 ≤ weight l e ∧ weight l e ≠ ⊤ := by
  unfold weight
  rw [max_eq_right bot_le]
  refine div_nonneg_ne_top (exp_nonneg _) (exp_ne_top ?_) ?_
  · intro h
    have hle : l e - rowTop l ≤ 0 := by
      rw [← EReal.sub_self ht hb]
      exact EReal.sub_le_sub (le_rowTop l e) le_rfl
    rw [h] at hle
    exact absurd hle (by simp)
  · obtain ⟨k, hk⟩ := exists_eq_rowTop l
    have h1 : Ideal.exp (l k - rowTop l) = 1 := by rw [← hk, EReal.sub_self ht hb, exp_zero]
    calc (0 : EReal) < 1 := zero_lt_one
      _ = Ideal.exp (l k - rowTop l) := h1.symm
      _ ≤ _ := Finset.single_le_sum (f := fun k => Ideal.exp (l k - rowTop l)) (fun k _ => exp_nonneg _) (Finset.mem_univ k)

end Cert.MoE

end
-- ==== Proof.Payload.lean ====
/-
  The kernel's four expressions read at one entry, over the extended reals, as sums and products of the entries of the
  blocks they take. A conversion between float formats changes nothing there.
-/
module

public import proofs.«01_k».proof.Proof.Opened
public import proofs.«01_k».proof.Proof.Weights
public import Idealize.ShloMosaic.Lib.Pointwise

@[expose] public section

set_option maxRecDepth 16384

noncomputable section

namespace Cert.MoE

open Idealize.ShloMosaic Idealize.SL.Sem
open Cert.KernelIdeal Cert.KernelIdeal.Gen

/-- The expert a grid point works on: its second coordinate. -/
def expertAt (i : grid0.Coords) : Fin 8 := ⟨(i 1).val, (i 1).isLt⟩

/-- The half of the hidden units a grid point works on: its third coordinate. -/
def halfAt (i : grid0.Coords) : Fin 2 := ⟨(i 2).val, (i 2).isLt⟩

/-- The update adds the product of a row of scaled hidden units with the second matrix to what was there. -/
theorem pay1_apply (a : FVec Ideal S1024x2048 .bf16) (w : Vec Ideal S1x2048x1024 .f32) (o : Vec Ideal S1024x1024 .f32)
    (r d : Fin 1024) :
    k0_pay1 a w o (ix2 r d) = o (ix2 r d) + ∑ k : Fin 2048, a (ix2 r k) * w (ix3 0 k d) := by
  pointwise [k0_pay1]

/-- The weights block holds, at row `r`, the softmax weights of that row's logits. -/
theorem pay2_apply (x : Vec Ideal S1024x1024 .bf16) (w : Vec Ideal S1024x8 .bf16) (b : Vec Ideal S1x8 .f32)
    (r : Fin 1024) (e : Fin 8) :
    k0_pay2 x w b (ix2 r e)
      = weight (fun e => ∑ k : Fin 1024, x (ix2 r k) * w (ix2 k e) + b (ix2 0 e)) e := by
  pointwise [k0_pay2, negInf_f32, weight, rowTop]

/-- The starting value is the weighted sum of the second biases. -/
theorem pay3_apply (a : FVec Ideal S1024x8 .f32) (b : Vec Ideal S8x1024 .f32) (r d : Fin 1024) :
    k0_pay3 a b (ix2 r d) = ∑ e : Fin 8, a (ix2 r e) * b (ix2 e d) := by
  pointwise [k0_pay3]

/-- Comparing a lane's number with the point's expert number, as 32-bit words, is comparing the two experts. -/
theorem lane_select (a b : Fin 8) (u : EReal) :
    Scalar.select (IntOp.cmpi CmpIPredicate.eq (BitVec.ofNat 32 a.val)
      (Scalar.addi (Scalar.muli (BitVec.ofNat 32 b.val) 1#32) 0#32)) u 0 = if a = b then u else 0 := by
  have h : ∀ a b : Fin 8, (IntOp.cmpi CmpIPredicate.eq (BitVec.ofNat 32 a.val)
      (Scalar.addi (Scalar.muli (BitVec.ofNat 32 b.val) 1#32) 0#32)) = if a = b then 1#1 else 0#1 := by decide +kernel
  rw [h]
  split <;> rfl

/-- A scaled hidden unit is the rectified unit times the weight the scratch holds for the point's expert. -/
theorem pay4_apply (i : grid0.Coords) (x : Vec Ideal S1024x1024 .bf16) (w : Vec Ideal S1x1024x2048 .f32) (b : Vec Ideal S1x2048 .f32)
    (s : Vec Ideal S1024x8 .f32) (r : Fin 1024) (k : Fin 2048) :
    k0_pay4 i x w b s (ix2 r k)
      = max (∑ l : Fin 1024, x (ix2 r l) * w (ix3 0 l k) + b (ix2 0 k)) 0 * s (ix2 r (expertAt i)) := by
  pointwise [k0_pay4]
  congr 1
  refine (Finset.sum_congr rfl fun l _ => lane_select l (expertAt i) _).trans ?_
  simp

/-- The loaded bias row is the expert's row of the table at the half's units. -/
theorem biasRow_apply (i : grid0.Coords) (b : Vec Ideal S8x4096 .f32) (k : Fin 2048) :
    biasRow i b (ix2 0 k) = b (ix2 (expertAt i) ⟨2048 * (halfAt i).val + k.val, by omega⟩) := by
  pointwise [biasRow, k0_off1]
  have h1 : ∀ a : Fin 8, BitVec.toNat (Scalar.indexCast (Scalar.addi (Scalar.muli (BitVec.ofNat 32 a.val) 1#32) 0#32)) = a.val := by
    decide +kernel
  have h2 : ∀ a : Fin 2, BitVec.toNat (Scalar.indexCast (Scalar.muli (BitVec.ofNat 32 a.val) 2048#32)) = 2048 * a.val := by
    decide +kernel
  congr 2
  · exact Fin.ext (h1 (expertAt i))
  · exact Fin.ext (congrArg (· + k.val) (h2 (halfAt i)))

end Cert.MoE

end
-- ==== Proof.Algebra.lean ====
/-
  The two orders of one token's sum. The kernel starts from the weighted second biases and adds, sixteen times, half an
  expert's hidden units with the weight multiplied in before the second product; the reference multiplies each expert's
  whole output, bias included, by its weight. Over the extended reals a product distributes over a sum when the factor
  is nonnegative and below infinity, and then the two are the same number.
-/
module

public import Idealize.ShloMosaic.Lib.Pointwise

@[expose] public section

noncomputable section

namespace Cert.MoE

open Idealize.ShloMosaic

/-- A factor that is nonnegative and below infinity distributes over a finite sum. -/
theorem mul_sum_of_nonneg {ι : Type} (s : Finset ι) (f : ι → EReal) {w : EReal} (h : 0 ≤ w) (h' : w ≠ ⊤) :
    w * ∑ i ∈ s, f i = ∑ i ∈ s, w * f i := by
  classical
  induction s using Finset.induction_on with
  | empty => simp
  | insert a s ha ih => rw [Finset.sum_insert ha, Finset.sum_insert ha, EReal.left_distrib_of_nonneg_of_ne_top h h', ih]

/-- Hidden unit `k` of half `q` among all 4096. -/
def unit (q : Fin 2) (k : Fin 2048) : Fin 4096 := ⟨2048 * q.val + k.val, by omega⟩

section
variable (w bias : Fin 8 → EReal) (hidden out : Fin 8 → Fin 4096 → EReal)

/-- What half `q` of expert `e`'s hidden units adds to one entry of the result: each unit times the weight times its
    entry of the second matrix. -/
def halfSum (e : Fin 8) (q : Fin 2) : EReal :=
  ∑ k : Fin 2048, hidden e (unit q k) * w e * out e (unit q k)

/-- The `j`-th of the sixteen additions: expert `j / 2`, half `j % 2`. -/
def stepSum (j : ℕ) : EReal :=
  halfSum w hidden out ⟨j / 2 % 8, Nat.mod_lt _ (by decide)⟩ ⟨j % 2, Nat.mod_lt _ (by decide)⟩

/-- The entry after `n` additions, over the weighted biases. -/
def partialSum (n : ℕ) : EReal :=
  ∑ e : Fin 8, w e * bias e + ∑ j ∈ Finset.range n, stepSum w hidden out j

/-- One more addition. -/
theorem partialSum_succ (n : ℕ) :
    partialSum w bias hidden out (n + 1) = partialSum w bias hidden out n + stepSum w hidden out n := by
  unfold partialSum
  rw [Finset.sum_range_succ, add_assoc]

/-- Sixteen additions are the eight experts, each with both its halves. -/
theorem sum_steps : ∑ j ∈ Finset.range 16, stepSum w hidden out j
    = ∑ e : Fin 8, (halfSum w hidden out e 0 + halfSum w hidden out e 1) := by
  simp only [Finset.sum_range_succ, Finset.sum_range_zero, zero_add, Fin.sum_univ_eight, ← add_assoc]
  rfl

/-- A sum over all 4096 hidden units is the sum over the first half and that over the second. -/
theorem sum_units (f : Fin 4096 → EReal) : ∑ h : Fin 4096, f h = ∑ k : Fin 2048, f (unit 0 k) + ∑ k : Fin 2048, f (unit 1 k) := by
  rw [Fin.sum_univ_add (a := 2048) (b := 2048) f]
  congr 1

/-- With weights that are nonnegative and below infinity, the kernel's entry after its sixteen additions is the
    reference's sum over the experts of weight times output. -/
theorem partialSum_all (hw : ∀ e, 0 ≤ w e ∧ w e ≠ ⊤) :
    partialSum w bias hidden out 16 = ∑ e : Fin 8, w e * (∑ h : Fin 4096, out e h * hidden e h + bias e) := by
  unfold partialSum
  rw [sum_steps, ← Finset.sum_add_distrib]
  refine Finset.sum_congr rfl fun e _ => ?_
  obtain ⟨h0, h1⟩ := hw e
  rw [EReal.left_distrib_of_nonneg_of_ne_top h0 h1, mul_sum_of_nonneg _ _ h0 h1, sum_units, add_comm]
  unfold halfSum
  have order : ∀ a b c : EReal, a * b * c = b * (c * a) := fun a b c => by rw [mul_comm a b, mul_assoc, mul_comm a c]
  simp only [order]

end

end Cert.MoE

end
-- ==== Proof.Blocks.lean ====
/-
  What the grid points' input blocks hold: each block's entries are entries of the argument arrays. Point `t` of the 32
  works on token block `t / 16`, expert `t / 2 % 8` and half `t % 2` of that expert's hidden units.
-/
module

public import proofs.«01_k».proof.Proof.Payload
public import proofs.«01_k».proof.Proof.Algebra

@[expose] public section

set_option maxRecDepth 16384

noncomputable section

namespace Cert.MoE

open Idealize.ShloMosaic Idealize.ShloMosaic.TcCoe Idealize.SL.Sem
open Cert.KernelIdeal Cert.KernelIdeal.Gen

/-- The token at row `r` of point `t`'s block. -/
def tokenAt (t : Fin cfg0.N) (r : Fin 1024) : Fin 2048 :=
  ⟨1024 * (t.val / 16) + r.val, by have := lt_of_lt_of_eq t.isLt (show cfg0.N = 32 from N_0); omega⟩

/-- The point's expert, from its number. -/
theorem expertAt_coords : ∀ t : Fin cfg0.N, (expertAt (grid0.coords t)).val = t.val / 2 % 8 :=
  (by decide +kernel : ∀ t : Fin grid0.N, _)

/-- The point's half, from its number. -/
theorem halfAt_coords : ∀ t : Fin cfg0.N, (halfAt (grid0.coords t)).val = t.val % 2 :=
  (by decide +kernel : ∀ t : Fin grid0.N, _)

/-- Which block of each argument a point reads. -/
theorem block_numbers : ∀ t : Fin cfg0.N,
    (win0_0.index t (0 : Fin 2) = t.val / 16 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = (expertAt (grid0.coords t)).val ∧ win0_3.index t (1 : Fin 3) = 0
        ∧ win0_3.index t (2 : Fin 3) = (halfAt (grid0.coords t)).val)
    ∧ (win0_4.index t (0 : Fin 2) = 0 ∧ win0_4.index t (1 : Fin 2) = 0)
    ∧ (win0_5.index t (0 : Fin 3) = (expertAt (grid0.coords t)).val ∧ win0_5.index t (1 : Fin 3) = (halfAt (grid0.coords t)).val
        ∧ win0_5.index t (2 : Fin 3) = 0)
    ∧ (win0_6.index t (0 : Fin 2) = 0 ∧ win0_6.index t (1 : Fin 2) = 0) :=
  (by decide +kernel : ∀ t : Fin grid0.N, _)

section
variable (m : (ℓ : Loc nD τ sig) → Buf (Elt Ideal) ℓ) (c : Dev nD)

/-- The converted tokens are the tokens. -/
theorem entry_tokens (i : S2048x1024.Idx) :
    (V (F := Ideal) m c main_call0_v0 : FVec Ideal S2048x1024 .bf16) i
      = (m ((c : Thread nD τ).loc main_arg0) : FVec Ideal S2048x1024 .f32) i := by
  entry_read
  rfl

/-- The converted router matrix is the router matrix. -/
theorem entry_router (i : S1024x8.Idx) :
    (V (F := Ideal) m c main_call0_v1 : FVec Ideal S1024x8 .bf16) i
      = (m ((c : Thread nD τ).loc main_arg1) : FVec Ideal S1024x8 .f32) i := by
  entry_read
  rfl

/-- The reshaped router bias is the router bias, as one row. -/
theorem entry_router_bias (e : Fin 8) :
    (V (F := Ideal) m c main_call0_v2 : FVec Ideal S1x8 .f32) (ix2 0 e)
      = (m ((c : Thread nD τ).loc main_arg2) : FVec Ideal S8 .f32) (ix1 e) := by
  entry_read
  pointwise []

variable (t : Fin cfg0.N)

/-- The token block holds the block's tokens. -/
theorem block_tokens (r k : Fin 1024) :
    (iblk m c 0 t : Vec Ideal S1024x1024 .bf16) (ix2 r k)
      = (m ((c : Thread nD τ).loc main_arg0) : FVec Ideal S2048x1024 .f32) (ix2 (tokenAt t r) k) := by
  refine Eq.trans (congrArg (V (F := Ideal) m c main_call0_v0 : FVec Ideal S2048x1024 .bf16) ?_) (entry_tokens m c _)
  obtain ⟨h0, h1⟩ := (block_numbers t).1
  funext a
  refine Fin.ext ?_
  match a with
  | ⟨0, _⟩ => show win0_0.index t (0 : Fin 2) * 1024 + 1 * r.val = 1024 * (t.val / 16) + r.val; rw [h0]; omega
  | ⟨1, _⟩ => show win0_0.index t (1 : Fin 2) * 1024 + 1 * k.val = k.val; rw [h1]; omega

/-- The router block is the whole router matrix. -/
theorem block_router (k : Fin 1024) (e : Fin 8) :
    (iblk m c 1 t : Vec Ideal S1024x8 .bf16) (ix2 k e)
      = (m ((c : Thread nD τ).loc main_arg1) : FVec Ideal S1024x8 .f32) (ix2 k e) := by
  refine Eq.trans (congrArg (V (F := Ideal) m c main_call0_v1 : FVec Ideal S1024x8 .bf16) ?_) (entry_router m c _)
  obtain ⟨h0, h1⟩ := (block_numbers t).2.1
  funext a
  refine Fin.ext ?_
  match a with
  | ⟨0, _⟩ => show win0_1.index t (0 : Fin 2) * 1024 + 1 * k.val = k.val; rw [h0]; omega
  | ⟨1, _⟩ => show win0_1.index t (1 : Fin 2) * 8 + 1 * e.val = e.val; rw [h1]; omega

/-- The router bias block is the whole router bias. -/
theorem block_router_bias (e : Fin 8) :
    (iblk m c 2 t : Vec Ideal S1x8 .f32) (ix2 0 e)
      = (m ((c : Thread nD τ).loc main_arg2) : FVec Ideal S8 .f32) (ix1 e) := by
  refine Eq.trans (congrArg (V (F := Ideal) m c main_call0_v2 : FVec Ideal S1x8 .f32) ?_) (entry_router_bias m c e)
  obtain ⟨h0, h1⟩ := (block_numbers t).2.2.1
  funext a
  refine Fin.ext ?_
  match a with
  | ⟨0, _⟩ => show win0_2.index t (0 : Fin 2) * 1 + 1 * 0 = 0; rw [h0]
  | ⟨1, _⟩ => show win0_2.index t (1 : Fin 2) * 8 + 1 * e.val = e.val; rw [h1]; omega

/-- The first matrix's block holds the point's expert, at the columns of the point's half. -/
theorem block_first (l : Fin 1024) (k : Fin 2048) :
    (iblk m c 3 t : Vec Ideal S1x1024x2048 .f32) (ix3 0 l k)
      = (m ((c : Thread nD τ).loc main_arg3) : FVec Ideal S8x1024x4096 .f32)
          (ix3 (expertAt (grid0.coords t)) l (unit (halfAt (grid0.coords t)) k)) := by
  refine Eq.trans (congrArg (V (F := Ideal) m c main_arg3 : FVec Ideal S8x1024x4096 .f32) ?_) (congrFun (V_main_arg3 m c) _)
  obtain ⟨h0, h1, h2⟩ := (block_numbers t).2.2.2.1
  funext a
  refine Fin.ext ?_
  match a with
  | ⟨0, _⟩ => show win0_3.index t (0 : Fin 3) * 1 + 1 * 0 = (expertAt (grid0.coords t)).val; rw [h0]; omega
  | ⟨1, _⟩ => show win0_3.index t (1 : Fin 3) * 1024 + 1 * l.val = l.val; rw [h1]; omega
  | ⟨2, _⟩ =>
    show win0_3.index t (2 : Fin 3) * 2048 + 1 * k.val = 2048 * (halfAt (grid0.coords t)).val + k.val
    rw [h2]; omega

/-- The first bias's block is the whole table. -/
theorem block_first_bias (e : Fin 8) (h : Fin 4096) :
    (iblk m c 4 t : Vec Ideal S8x4096 .f32) (ix2 e h)
      = (m ((c : Thread nD τ).loc main_arg4) : FVec Ideal S8x4096 .f32) (ix2 e h) := by
  refine Eq.trans (congrArg (V (F := Ideal) m c main_arg4 : FVec Ideal S8x4096 .f32) ?_) (congrFun (V_main_arg4 m c) _)
  obtain ⟨h0, h1⟩ := (block_numbers t).2.2.2.2.1
  funext a
  refine Fin.ext ?_
  match a with
  | ⟨0, _⟩ => show win0_4.index t (0 : Fin 2) * 8 + 1 * e.val = e.val; rw [h0]; omega
  | ⟨1, _⟩ => show win0_4.index t (1 : Fin 2) * 4096 + 1 * h.val = h.val; rw [h1]; omega

/-- The second matrix's block holds the point's expert, at the rows of the point's half. -/
theorem block_second (k : Fin 2048) (d : Fin 1024) :
    (iblk m c 5 t : Vec Ideal S1x2048x1024 .f32) (ix3 0 k d)
      = (m ((c : Thread nD τ).loc main_arg5) : FVec Ideal S8x4096x1024 .f32)
          (ix3 (expertAt (grid0.coords t)) (unit (halfAt (grid0.coords t)) k) d) := by
  refine Eq.trans (congrArg (V (F := Ideal) m c main_arg5 : FVec Ideal S8x4096x1024 .f32) ?_) (congrFun (V_main_arg5 m c) _)
  obtain ⟨h0, h1, h2⟩ := (block_numbers t).2.2.2.2.2.1
  funext a
  refine Fin.ext ?_
  match a with
  | ⟨0, _⟩ => show win0_5.index t (0 : Fin 3) * 1 + 1 * 0 = (expertAt (grid0.coords t)).val; rw [h0]; omega
  | ⟨1, _⟩ =>
    show win0_5.index t (1 : Fin 3) * 2048 + 1 * k.val = 2048 * (halfAt (grid0.coords t)).val + k.val
    rw [h1]; omega
  | ⟨2, _⟩ => show win0_5.index t (2 : Fin 3) * 1024 + 1 * d.val = d.val; rw [h2]; omega

/-- The second bias's block is the whole table. -/
theorem block_second_bias (e : Fin 8) (d : Fin 1024) :
    (iblk m c 6 t : Vec Ideal S8x1024 .f32) (ix2 e d)
      = (m ((c : Thread nD τ).loc main_arg6) : FVec Ideal S8x1024 .f32) (ix2 e d) := by
  refine Eq.trans (congrArg (V (F := Ideal) m c main_arg6 : FVec Ideal S8x1024 .f32) ?_) (congrFun (V_main_arg6 m c) _)
  obtain ⟨h0, h1⟩ := (block_numbers t).2.2.2.2.2.2
  funext a
  refine Fin.ext ?_
  match a with
  | ⟨0, _⟩ => show win0_6.index t (0 : Fin 2) * 8 + 1 * e.val = e.val; rw [h0]; omega
  | ⟨1, _⟩ => show win0_6.index t (1 : Fin 2) * 1024 + 1 * d.val = d.val; rw [h1]; omega

end

end Cert.MoE

end
-- ==== Proof.Terms.lean ====
/-
  The layer's quantities for one token, written as plain formulas of the argument arrays: its router logits, and the
  hidden units of each expert after the rectifier.
-/
module

public import Idealize.ShloMosaic.Lib.Pointwise

@[expose] public section

noncomputable section

namespace Cert.MoE

open Idealize.ShloMosaic

/-- Token `r`'s router logits: its row times the router matrix, plus the router bias. -/
def logits (x : FVec Ideal ⟨2, ![2048, 1024]⟩ .f32) (Wr : FVec Ideal ⟨2, ![1024, 8]⟩ .f32) (br : FVec Ideal ⟨1, ![8]⟩ .f32)
    (r : Fin 2048) (e : Fin 8) : EReal :=
  ∑ k : Fin 1024, x (ix2 r k) * Wr (ix2 k e) + br (ix1 e)

/-- Hidden unit `h` of expert `e` for token `r`: the row times the first matrix, plus the first bias, cut off below at zero. -/
def hidden (x : FVec Ideal ⟨2, ![2048, 1024]⟩ .f32) (W1 : FVec Ideal ⟨3, ![8, 1024, 4096]⟩ .f32)
    (b1 : FVec Ideal ⟨2, ![8, 4096]⟩ .f32) (r : Fin 2048) (e : Fin 8) (h : Fin 4096) : EReal :=
  max (∑ k : Fin 1024, x (ix2 r k) * W1 (ix3 e k h) + b1 (ix2 e h)) 0

end Cert.MoE

end
-- ==== Proof.Fold.lean ====
/-
  What the kernel's result array ends holding. Over a token block's sixteen points the scratch keeps the block's softmax
  weights and the output block gathers one more half of an expert at each point, so after the last of them an entry is
  the weighted second biases plus all sixteen additions.
-/
module

public import proofs.«01_k».proof.Proof.Gen.KernelIdeal.Value
public import proofs.«01_k».proof.Proof.Blocks
public import proofs.«01_k».proof.Proof.Terms

@[expose] public section

set_option maxRecDepth 16384

noncomputable section

namespace Cert.MoE

open Idealize.ShloMosaic Idealize.ShloMosaic.TcCoe Idealize.SL.Sem
open Cert.KernelIdeal Cert.KernelIdeal.Gen

section
variable (m : (ℓ : Loc nD τ sig) → Buf (Elt Ideal) ℓ) (c : Dev nD)

/-- Token `r`'s softmax weights, of the arguments in memory. -/
def tokenWeight (r : Fin 2048) : Fin 8 → EReal :=
  weight (logits (m ((c : Thread nD τ).loc main_arg0)) (m ((c : Thread nD τ).loc main_arg1)) (m ((c : Thread nD τ).loc main_arg2)) r)

/-- The entry of token `r` and column `d` after `n` additions, of the arguments in memory. -/
def entryAfter (r : Fin 2048) (d : Fin 1024) (n : ℕ) : EReal :=
  partialSum (tokenWeight m c r) (fun e => (m ((c : Thread nD τ).loc main_arg6) : FVec Ideal S8x1024 .f32) (ix2 e d))
    (hidden (m ((c : Thread nD τ).loc main_arg0)) (m ((c : Thread nD τ).loc main_arg3)) (m ((c : Thread nD τ).loc main_arg4)) r)
    (fun e h => (m ((c : Thread nD τ).loc main_arg5) : FVec Ideal S8x4096x1024 .f32) (ix3 e h d)) n

variable (t : Fin cfg0.N)

/-- The weights a point's blocks give are those of the block's tokens. -/
theorem weights_of_blocks (r : Fin 1024) (e : Fin 8) :
    k0_pay2 (iblk m c 0 t : Vec Ideal S1024x1024 .bf16) (iblk m c 1 t : Vec Ideal S1024x8 .bf16) (iblk m c 2 t : Vec Ideal S1x8 .f32) (ix2 r e)
      = tokenWeight m c (tokenAt t r) e := by
  rw [pay2_apply]
  simp only [block_tokens, block_router, block_router_bias]
  rfl

/-- A point's update adds its half of its expert, with the weights `s` the scratch holds, to what the block held. -/
theorem update_of_blocks (s : Vec Ideal S1024x8 .f32) (o : Vec Ideal S1024x1024 .f32)
    (hs : ∀ r e, s (ix2 r e) = tokenWeight m c (tokenAt t r) e) (r d : Fin 1024) :
    k0_pay1 (k0_pay4 (grid0.coords t) (iblk m c 0 t : Vec Ideal S1024x1024 .bf16) (iblk m c 3 t : Vec Ideal S1x1024x2048 .f32)
        (biasRow (grid0.coords t) (iblk m c 4 t : Vec Ideal S8x4096 .f32)) s) (iblk m c 5 t : Vec Ideal S1x2048x1024 .f32) o (ix2 r d)
      = o (ix2 r d) + stepSum (tokenWeight m c (tokenAt t r))
          (hidden (m ((c : Thread nD τ).loc main_arg0)) (m ((c : Thread nD τ).loc main_arg3)) (m ((c : Thread nD τ).loc main_arg4)) (tokenAt t r))
          (fun e h => (m ((c : Thread nD τ).loc main_arg5) : FVec Ideal S8x4096x1024 .f32) (ix3 e h d)) (t.val % 16) := by
  have he : (⟨t.val % 16 / 2 % 8, Nat.mod_lt _ (by decide)⟩ : Fin 8) = expertAt (grid0.coords t) :=
    Fin.ext (by rw [expertAt_coords]; show t.val % 16 / 2 % 8 = _; omega)
  have hq : (⟨t.val % 16 % 2, Nat.mod_lt _ (by decide)⟩ : Fin 2) = halfAt (grid0.coords t) :=
    Fin.ext (by rw [halfAt_coords]; show t.val % 16 % 2 = _; omega)
  rw [pay1_apply]
  unfold stepSum halfSum
  rw [he, hq]
  simp only [pay4_apply, biasRow_apply, block_tokens, block_first, block_first_bias, block_second, hs]
  rfl

/-- At the first point of a token block: the scratch holds its tokens' weights, the output block the weighted second biases
    and the first addition. -/
theorem held_first (h0 : t.val % 16 = 0) :
    (∀ r e, (outsAt0 m c t.val t.isLt).2 (ix2 r e) = tokenWeight m c (tokenAt t r) e)
    ∧ (∀ r d, (outsAt0 m c t.val t.isLt).1 (ix2 r d) = entryAfter m c (tokenAt t r) d (t.val % 16 + 1)) := by
  rw [outsAt0_A m c t h0]
  dsimp only
  refine ⟨fun r e => ?_, fun r d => ?_⟩
  · rw [scratch_first]
    exact weights_of_blocks m c t r e
  · rw [out_first, update_of_blocks m c t _ _ (weights_of_blocks m c t) r d, pay3_apply]
    simp only [weights_of_blocks, block_second_bias]
    unfold entryAfter
    rw [partialSum_succ, h0]
    unfold partialSum
    simp only [Finset.sum_range_zero, add_zero]

/-- At a later point of a token block: the scratch is as the point before left it, and the output block has one more addition. -/
theorem held_later (h0 : ¬ t.val % 16 = 0) (s : Fin cfg0.N) (hst : t.val = s.val + 1)
    (ih : (∀ r e, (outsAt0 m c s.val s.isLt).2 (ix2 r e) = tokenWeight m c (tokenAt s r) e)
      ∧ (∀ r d, (outsAt0 m c s.val s.isLt).1 (ix2 r d) = entryAfter m c (tokenAt s r) d (s.val % 16 + 1))) :
    (∀ r e, (outsAt0 m c t.val t.isLt).2 (ix2 r e) = tokenWeight m c (tokenAt t r) e)
    ∧ (∀ r d, (outsAt0 m c t.val t.isLt).1 (ix2 r d) = entryAfter m c (tokenAt t r) d (t.val % 16 + 1)) := by
  obtain ⟨n, hn⟩ := t
  obtain ⟨n', hn'⟩ := s
  obtain rfl : n = n' + 1 := hst
  dsimp only at h0 ih
  have htok : ∀ r, tokenAt ⟨n' + 1, hn⟩ r = tokenAt ⟨n', hn'⟩ r := fun r =>
    Fin.ext (by show 1024 * ((n' + 1) / 16) + r.val = 1024 * (n' / 16) + r.val; omega)
  have hs : ∀ r e, (outsAt0 m c n' hn').2 (ix2 r e) = tokenWeight m c (tokenAt ⟨n' + 1, hn⟩ r) e := fun r e => by
    rw [htok]; exact ih.1 r e
  rw [outsAt0_B m c ⟨n' + 1, hn⟩ h0]
  dsimp only
  refine ⟨fun r e => hs r e, fun r d => ?_⟩
  rw [out_later]
  refine (update_of_blocks m c ⟨n' + 1, hn⟩ _ _ hs r d).trans ?_
  unfold entryAfter
  rw [partialSum_succ]
  refine congrArg (· + _) ((ih.2 r d).trans ?_)
  unfold entryAfter
  rw [htok, show n' % 16 + 1 = (n' + 1) % 16 from by omega]

end

section
variable (m : (ℓ : Loc nD τ sig) → Buf (Elt Ideal) ℓ) (c : Dev nD)

/-- After point `n` the scratch holds the weights of the point's tokens, and the output block their entries after the
    additions made so far. -/
theorem held_after : ∀ (n : ℕ) (hn : n < cfg0.N),
    (∀ r e, (outsAt0 m c n hn).2 (ix2 r e) = tokenWeight m c (tokenAt ⟨n, hn⟩ r) e)
    ∧ (∀ r d, (outsAt0 m c n hn).1 (ix2 r d) = entryAfter m c (tokenAt ⟨n, hn⟩ r) d (n % 16 + 1))
  | 0, hn => held_first m c ⟨0, hn⟩ rfl
  | n + 1, hn =>
    if h0 : (n + 1) % 16 = 0 then held_first m c ⟨n + 1, hn⟩ h0
    else held_later m c ⟨n + 1, hn⟩ h0 ⟨n, Nat.lt_of_succ_lt hn⟩ rfl (held_after n (Nat.lt_of_succ_lt hn))

/-- The result array's entry for token `r` and column `d` is the entry after all sixteen additions. -/
theorem result_apply (r : Fin 2048) (d : Fin 1024) :
    (Value.G7 (F := Ideal) m c : FVec Ideal S2048x1024 .f32) (ix2 r d) = entryAfter m c r d 16 := by
  have hrun : Value.run7Of (ix2 r d) = r.val / 1024 := by
    show 1 * (r.val / 1024 - 0) + 1 * (d.val / 1024 - 0) = r.val / 1024
    omega
  have hpt : Value.pt7Of (ix2 r d) = 16 * (r.val / 1024) + 15 := by
    show 16 * Value.run7Of (ix2 r d) + 15 = _
    rw [hrun]
  have hlt : Value.pt7Of (ix2 r d) < cfg0.N := by
    rw [hpt]; exact lt_of_lt_of_eq (by omega) N_0.symm
  have hloc : Value.loc7Of (ix2 r d) = ix2 ⟨r.val % 1024, Nat.mod_lt _ (by decide)⟩ ⟨d.val % 1024, Nat.mod_lt _ (by decide)⟩ := by
    funext a
    match a with
    | ⟨0, _⟩ => rfl
    | ⟨1, _⟩ => rfl
  unfold Value.G7
  rw [dif_pos hlt, ← Value.outsAt0_sweep, hloc]
  refine ((held_after m c _ hlt).2 _ _).trans ?_
  have hr : tokenAt ⟨Value.pt7Of (ix2 r d), hlt⟩ ⟨r.val % 1024, Nat.mod_lt _ (by decide)⟩ = r :=
    Fin.ext (by show 1024 * (Value.pt7Of (ix2 r d) / 16) + r.val % 1024 = r.val; rw [hpt]; omega)
  have hd : (⟨d.val % 1024, Nat.mod_lt _ (by decide)⟩ : Fin 1024) = d := Fin.ext (Nat.mod_eq_of_lt d.isLt)
  have hn : Value.pt7Of (ix2 r d) % 16 + 1 = 16 := by rw [hpt]; omega
  rw [hr, hd, hn]

end

end Cert.MoE

end
-- ==== Proof.RefValue.lean ====
/-
  What the reference computes at one entry, and what its precondition says of one token, as plain formulas of the
  argument arrays.
-/
module

public import proofs.«01_k».proof.Pre_top_logit_finite
public import proofs.«01_k».proof.Proof.Gen.ReferenceIdeal.Read
public import proofs.«01_k».proof.Proof.Payload
public import proofs.«01_k».proof.Proof.Weights
public import proofs.«01_k».proof.Proof.Terms

@[expose] public section

set_option maxRecDepth 16384

noncomputable section

namespace Cert.MoE

open Idealize.ShloMosaic Idealize.SL.Sem
open Cert.ReferenceIdeal Cert.ReferenceIdeal.Read

section
variable (x : FVec Ideal S2048x1024 .f32) (Wr : FVec Ideal S1024x8 .f32) (br : FVec Ideal S8 .f32)

/-- The reference's weights are the softmax weights of the token's logits. -/
theorem ref_weight (r : Fin 2048) (e : Fin 8) :
    val_main_v14 (F := Ideal) x Wr br (ix2 r e) = weight (logits x Wr br r) e := by
  pointwise [val_main_v14, val_main_v13, val_main_v12, val_main_v11, val_main_v10, val_main_v9, val_main_v8, val_main_v7,
    val_main_v6, val_main_v5, val_main_v4, val_main_v3, val_main_v2, val_main_v1, val_main_v0,
    val_main_cst, val_main_cst_0, val_main_cst_1, negInf_f32, weight, rowTop, logits]

/-- The reference's entry for token `r` and column `d`: over the experts, the weight times the expert's output. -/
theorem ref_apply (W1 : FVec Ideal S8x1024x4096 .f32) (b1 : FVec Ideal S8x4096 .f32) (W2 : FVec Ideal S8x4096x1024 .f32)
    (b2 : FVec Ideal S8x1024 .f32) (r : Fin 2048) (d : Fin 1024) :
    val_main_v28 (F := Ideal) x Wr br W1 b1 W2 b2 (ix2 r d)
      = ∑ e : Fin 8, weight (logits x Wr br r) e
          * (∑ h : Fin 4096, W2 (ix3 e h d) * hidden x W1 b1 r e h + b2 (ix2 e d)) := by
  simp only [← ref_weight]
  pointwise [val_main_v28, val_main_v27, val_main_v26, val_main_v25, val_main_v24, val_main_v23, val_main_v22, val_main_v21,
    val_main_v20, val_main_v19, val_main_v18, val_main_v17, val_main_v16, val_main_v15, val_main_cst_2, val_main_call0_v0,
    val_main_call0_cst, hidden]

end

/-- The side conditions of the precondition's program: its shapes fit. -/
theorem pre_facts : Cert.Pre_top_logit_finite.Facts where
  bcast_S8_S1x8_1 := by decide
  bcast_S1x8_S2048x8_0_1 := by decide
  reducesTo_S2048x8_S2048_d1 := by decide
  h_S_ := by decide
  bcast_S_S2048 := by decide
  dot_S2048x1024_S1024x8_S2048x8_1_0_0_1_n_n_wf := by decide

/-- A number whose absolute value is below infinity is neither infinity. -/
theorem ne_top_bot_of_abs_lt {y : EReal} (h : max y (-y) < ⊤) : y ≠ ⊤ ∧ y ≠ ⊥ := by
  constructor
  · rintro rfl
    exact absurd h (by simp)
  · rintro rfl
    exact absurd h (by simp)

/-- A comparison bit that is set says what it compares. -/
theorem lt_top_of_bit {y : EReal} (h : BitVec.ofBool (decide (max y (-y) < ⊤)) = 1#1) : max y (-y) < ⊤ := by
  by_contra hn
  rw [decide_eq_false hn] at h
  exact absurd h (by decide)

/-- The precondition holds of a token only when its largest logit is neither infinity. -/
theorem pre_apply [Cert.Pre_top_logit_finite.Facts] (x : FVec Ideal S2048x1024 .f32) (Wr : FVec Ideal S1024x8 .f32)
    (br : FVec Ideal S8 .f32) (W1 : FVec Ideal S8x1024x4096 .f32) (b1 : FVec Ideal S8x4096 .f32)
    (W2 : FVec Ideal S8x4096x1024 .f32) (b2 : FVec Ideal S8x1024 .f32)
    (h : Cert.Pre_top_logit_finite.fn (F := Ideal) x Wr br W1 b1 W2 b2 = fun _ => 1#1) (r : Fin 2048) :
    rowTop (logits x Wr br r) ≠ ⊤ ∧ rowTop (logits x Wr br r) ≠ ⊥ := by
  have hr := congrFun h (ix1 r)
  refine ne_top_bot_of_abs_lt ?_
  revert hr
  pointwise [Cert.Pre_top_logit_finite.fn, negInf_f32, posInf_f32, rowTop, logits]
  exact fun hr => lt_top_of_bit hr

end Cert.MoE

end
-- ==== Proof.Equation.lean ====
/-
  The equation: where each token's largest router logit is a finite number, the kernel's result array is the reference's.
-/
module

public import proofs.«01_k».proof.Proof.Fold
public import proofs.«01_k».proof.Proof.RefValue

@[expose] public section

noncomputable section

namespace Cert.MoE

open Idealize.ShloMosaic Idealize.ShloMosaic.TcCoe Idealize.SL.Sem
open Cert.KernelIdeal Cert.KernelIdeal.Gen

/-- The kernel's result is the reference's value at the same arguments, entry by entry: the weights are nonnegative and
    below infinity, so they distribute over each expert's output. -/
theorem result_eq [Cert.Pre_top_logit_finite.Facts] (m : (ℓ : Loc nD τ sig) → Buf (Elt Ideal) ℓ) (c : Dev nD)
    (hpre : Cert.Pre_top_logit_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = fun _ => 1#1) :
    (Value.G7 (F := Ideal) m c : FVec Ideal S2048x1024 .f32)
      = Cert.ReferenceIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  funext i
  obtain ⟨r, d, rfl⟩ : ∃ (r : Fin 2048) (d : Fin 1024), i = ix2 r d := ⟨i 0, i 1, eq_ix2 i⟩
  rw [result_apply, ref_apply]
  obtain ⟨ht, hb⟩ := pre_apply _ _ _ _ _ _ _ hpre r
  exact partialSum_all _ _ _ _ (weight_nonneg_ne_top ht hb)

end Cert.MoE

end
-- ==== Proof.lean ====
/-
  The proof of `Cert.Claim`. The frames are the generated runs, weakened; the precondition plays no part in them. The value
  claim runs the kernel and the reference from memories that agree on the arguments and sets the kernel's result array,
  read by the fold over its grid points, beside the reference's value (Proof/Equation.lean).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to its end and leaves its arguments as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where each token's largest router logit is finite, the kernel and the reference end with the same result. -/
theorem algebraic_KernelIdeal_ReferenceIdeal :
    algebraic_KernelIdeal_ReferenceIdeal_pre_top_logit_finite (hPre_top_logit_finite := Cert.MoE.pre_facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v28_eq]
  haveI := Cert.MoE.pre_facts
  exact (Cert.MoE.result_eq m c (hpre c)).symm

/-- Everything the certificate claims. -/
theorem claim : Cert.Claim := ⟨Cert.Kernel.Gen.facts, Cert.KernelIdeal.Gen.facts, Cert.ReferenceIdeal.Gen.facts, Cert.MoE.pre_facts,
  fun m ρ _ => Cert.Kernel.Gen.frame m ρ,
  fun m ρ _ => Cert.KernelIdeal.Gen.frame m ρ,
  fun m ρ _ => Cert.KernelIdeal.Gen.frame m ρ,
  quiescent_ReferenceIdeal,
  fun m ρ _ => quiescent_ReferenceIdeal m ρ trivial,
  (trivial : preserves_Kernel_KernelIdeal),
  algebraic_KernelIdeal_ReferenceIdeal⟩

end Cert.Proof

end
